-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7424 : Shape := ⟨3, ![192, 1, 7424]⟩
abbrev S8192x3712 : Shape := ⟨2, ![8192, 3712]⟩
abbrev S8192x232 : Shape := ⟨2, ![8192, 232]⟩
abbrev S192x7424 : Shape := ⟨2, ![192, 7424]⟩
abbrev S232x8192 : Shape := ⟨2, ![232, 8192]⟩
abbrev S192x8192 : Shape := ⟨2, ![192, 8192]⟩
abbrev S1024x3712 : Shape := ⟨2, ![1024, 3712]⟩
abbrev S232x1024 : Shape := ⟨2, ![232, 1024]⟩
abbrev S192x1024 : Shape := ⟨2, ![192, 1024]⟩
abbrev S1024x128 : Shape := ⟨2, ![1024, 128]⟩
abbrev S128x1024 : Shape := ⟨2, ![128, 1024]⟩
abbrev S256x1024 : Shape := ⟨2, ![256, 1024]⟩
abbrev S1x1024 : Shape := ⟨2, ![1, 1024]⟩
abbrev S8x1024 : Shape := ⟨2, ![8, 1024]⟩
abbrev S16x1024 : Shape := ⟨2, ![16, 1024]⟩
abbrev S192x256 : Shape := ⟨2, ![192, 256]⟩

abbrev nBuf : Space → Nat
  | .hbm => 6
  | .vmem => 8
  | .smem => 0
  | _ => 0

abbrev bufTy : (tb : Table) → Fin (tcTables nBuf tb) → BufTy
  | .hbm, ⟨0, _⟩ => ⟨S192x1x7424, .bf16⟩
  | .hbm, ⟨1, _⟩ => ⟨S8192x3712, .i8⟩
  | .hbm, ⟨2, _⟩ => ⟨S8192x232, .i8⟩
  | .hbm, ⟨3, _⟩ => ⟨S192x7424, .bf16⟩
  | .hbm, ⟨4, _⟩ => ⟨S232x8192, .i8⟩
  | .hbm, ⟨5, _⟩ => ⟨S192x8192, .bf16⟩
  | .local _ .vmem, ⟨0, _⟩ => ⟨S192x7424, .bf16⟩
  | .local _ .vmem, ⟨1, _⟩ => ⟨S1024x3712, .i8⟩
  | .local _ .vmem, ⟨2, _⟩ => ⟨S1024x3712, .i8⟩
  | .local _ .vmem, ⟨3, _⟩ => ⟨S232x1024, .i8⟩
  | .local _ .vmem, ⟨4, _⟩ => ⟨S232x1024, .i8⟩
  | .local _ .vmem, ⟨5, _⟩ => ⟨S192x1024, .bf16⟩
  | .local _ .vmem, ⟨6, _⟩ => ⟨S192x1024, .bf16⟩
  | .local _ .vmem, ⟨7, _⟩ => ⟨S232x1024, .i32⟩
  | _, _ => ⟨S192x1x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7424 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3712 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S232x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x7424 : Shape := ⟨3, ![192, 1, 7424]⟩
abbrev S8192x3712 : Shape := ⟨2, ![8192, 3712]⟩
abbrev S8192x232 : Shape := ⟨2, ![8192, 232]⟩
abbrev S_ : Shape := ⟨0, ![]⟩
abbrev S8192x232x1 : Shape := ⟨3, ![8192, 232, 1]⟩
abbrev S8192x232x16 : Shape := ⟨3, ![8192, 232, 16]⟩
abbrev S192x232x16x2 : Shape := ⟨4, ![192, 232, 16, 2]⟩
abbrev S192x232x16x1 : Shape := ⟨4, ![192, 232, 16, 1]⟩
abbrev S192x232x16 : Shape := ⟨3, ![192, 232, 16]⟩
abbrev S192x8192 : Shape := ⟨2, ![192, 8192]⟩

abbrev nBuf : Space → Nat
  | .hbm => 123
  | .vmem => 0
  | .smem => 0
  | _ => 0

abbrev bufTy : (tb : Table) → Fin (tcTables nBuf tb) → BufTy
  | .hbm, ⟨0, _⟩ => ⟨S192x1x7424, .bf16⟩
  | .hbm, ⟨1, _⟩ => ⟨S8192x3712, .i8⟩
  | .hbm, ⟨2, _⟩ => ⟨S8192x232, .i8⟩
  | .hbm, ⟨3, _⟩ => ⟨S8192x232, .i32⟩
  | .hbm, ⟨4, _⟩ => ⟨S_, .i32⟩
  | .hbm, ⟨5, _⟩ => ⟨S8192x232, .i32⟩
  | .hbm, ⟨6, _⟩ => ⟨S8192x232, .i32⟩
  | .hbm, ⟨7, _⟩ => ⟨S_, .f32⟩
  | .hbm, ⟨8, _⟩ => ⟨S8192x232, .f32⟩
  | .hbm, ⟨9, _⟩ => ⟨S8192x232, .f32⟩
  | .hbm, ⟨10, _⟩ => ⟨S8192x232, .f32⟩
  | .hbm, ⟨11, _⟩ => ⟨S_, .i32⟩
  | .hbm, ⟨12, _⟩ => ⟨S8192x232, .i32⟩
  | .hbm, ⟨13, _⟩ => ⟨S8192x232, .i1⟩
  | .hbm, ⟨14, _⟩ => ⟨S_, .f32⟩
  | .hbm, ⟨15, _⟩ => ⟨S_, .f32⟩
  | .hbm, ⟨16, _⟩ => ⟨S8192x232, .f32⟩
  | .hbm, ⟨17, _⟩ => ⟨S8192x232, .f32⟩
  | .hbm, ⟨18, _⟩ => ⟨S8192x232, .bf16⟩
  | .hbm, ⟨19, _⟩ => ⟨S8192x232x1, .bf16⟩
  | .hbm, ⟨20, _⟩ => ⟨S8192x3712, .i32⟩
  | .hbm, ⟨21, _⟩ => ⟨S8192x232x16, .i32⟩
  | .hbm, ⟨22, _⟩ => ⟨S_, .i32⟩
  | .hbm, ⟨23, _⟩ => ⟨S8192x232x16, .i32⟩
  | .hbm, ⟨24, _⟩ => ⟨S8192x232x16, .i32⟩
  | .hbm, ⟨25, _⟩ => ⟨S_, .i32⟩
  | .hbm, ⟨26, _⟩ => ⟨S8192x232x16, .i32⟩
  | .hbm, ⟨27, _⟩ => ⟨S8192x232x16, .i32⟩
  | .hbm, ⟨28, _⟩ => ⟨S_, .i32⟩
  | .hbm, ⟨29, _⟩ => ⟨S8192x232x16, .i32⟩
  | .hbm, ⟨30, _⟩ => ⟨S8192x232x16, .i32⟩
  | .hbm, ⟨31, _⟩ => ⟨S_, .i32⟩
  | .hbm, ⟨32, _⟩ => ⟨S8192x232x16, .i32⟩
  | .hbm, ⟨33, _⟩ => ⟨S8192x232x16, .i32⟩
  | .hbm, ⟨34, _⟩ => ⟨S_, .i32⟩
  | .hbm, ⟨35, _⟩ => ⟨S8192x232x16, .i32⟩
  | .hbm, ⟨36, _⟩ => ⟨S8192x232x16, .i32⟩
  | .hbm, ⟨37, _⟩ => ⟨S_, .i32⟩
  | .hbm, ⟨38, _⟩ => ⟨S8192x232x16, .i32⟩
  | .hbm, ⟨39, _⟩ => ⟨S8192x232x16, .i32⟩
  | .hbm, ⟨40, _⟩ => ⟨S_, .i32⟩
  | .hbm, ⟨41, _⟩ => ⟨S8192x232x16, .i32⟩
  | .hbm, ⟨42, _⟩ => ⟨S8192x232x16, .i32⟩
  | .hbm, ⟨43, _⟩ => ⟨S8192x232x16, .i32⟩
  | .hbm, ⟨44, _⟩ => ⟨S_, .i32⟩
  | .hbm, ⟨45, _⟩ => ⟨S8192x232x16, .i32⟩
  | .hbm, ⟨46, _⟩ => ⟨S8192x232x16, .i1⟩
  | .hbm, ⟨47, _⟩ => ⟨S_, .i32⟩
  | .hbm, ⟨48, _⟩ => ⟨S_, .i32⟩
  | .hbm, ⟨49, _⟩ => ⟨S8192x232x16, .i32⟩
  | .hbm, ⟨50, _⟩ => ⟨S8192x232x16, .i32⟩
  | .hbm, ⟨51, _⟩ => ⟨S8192x232x16, .i32⟩
  | .hbm, ⟨52, _⟩ => ⟨S_, .i32⟩
  | .hbm, ⟨53, _⟩ => ⟨S8192x232x16, .i32⟩
  | .hbm, ⟨54, _⟩ => ⟨S8192x232x16, .i1⟩
  | .hbm, ⟨55, _⟩ => ⟨S8192x232x16, .i32⟩
  | .hbm, ⟨56, _⟩ => ⟨S8192x232x16, .i32⟩
  | .hbm, ⟨57, _⟩ => ⟨S_, .i32⟩
  | .hbm, ⟨58, _⟩ => ⟨S8192x232x16, .i32⟩
  | .hbm, ⟨59, _⟩ => ⟨S8192x232x16, .i32⟩
  | .hbm, ⟨60, _⟩ => ⟨S_, .i32⟩
  | .hbm, ⟨61, _⟩ => ⟨S8192x232x16, .i32⟩
  | .hbm, ⟨62, _⟩ => ⟨S8192x232x16, .i32⟩
  | .hbm, ⟨63, _⟩ => ⟨S8192x232x16, .i32⟩
  | .hbm, ⟨64, _⟩ => ⟨S8192x232x16, .i16⟩
  | .hbm, ⟨65, _⟩ => ⟨S8192x232x16, .bf16⟩
  | .hbm, ⟨66, _⟩ => ⟨S8192x232x16, .bf16⟩
  | .hbm, ⟨67, _⟩ => ⟨S8192x232x16, .bf16⟩
  | .hbm, ⟨68, _⟩ => ⟨S_, .i32⟩
  | .hbm, ⟨69, _⟩ => ⟨S8192x232x16, .i32⟩
  | .hbm, ⟨70, _⟩ => ⟨S8192x232x16, .i32⟩
  | .hbm, ⟨71, _⟩ => ⟨S_, .i32⟩
  | .hbm, ⟨72, _⟩ => ⟨S8192x232x16, .i32⟩
  | .hbm, ⟨73, _⟩ => ⟨S8192x232x16, .i32⟩
  | .hbm, ⟨74, _⟩ => ⟨S_, .i32⟩
  | .hbm, ⟨75, _⟩ => ⟨S8192x232x16, .i32⟩
  | .hbm, ⟨76, _⟩ => ⟨S8192x232x16, .i32⟩
  | .hbm, ⟨77, _⟩ => ⟨S_, .i32⟩
  | .hbm, ⟨78, _⟩ => ⟨S8192x232x16, .i32⟩
  | .hbm, ⟨79, _⟩ => ⟨S8192x232x16, .i32⟩
  | .hbm, ⟨80, _⟩ => ⟨S_, .i32⟩
  | .hbm, ⟨81, _⟩ => ⟨S8192x232x16, .i32⟩
  | .hbm, ⟨82, _⟩ => ⟨S8192x232x16, .i32⟩
  | .hbm, ⟨83, _⟩ => ⟨S_, .i32⟩
  | .hbm, ⟨84, _⟩ => ⟨S8192x232x16, .i32⟩
  | .hbm, ⟨85, _⟩ => ⟨S8192x232x16, .i32⟩
  | .hbm, ⟨86, _⟩ => ⟨S_, .i32⟩
  | .hbm, ⟨87, _⟩ => ⟨S8192x232x16, .i32⟩
  | .hbm, ⟨88, _⟩ => ⟨S8192x232x16, .i32⟩
  | .hbm, ⟨89, _⟩ => ⟨S8192x232x16, .i32⟩
  | .hbm, ⟨90, _⟩ => ⟨S_, .i32⟩
  | .hbm, ⟨91, _⟩ => ⟨S8192x232x16, .i32⟩
  | .hbm, ⟨92, _⟩ => ⟨S8192x232x16, .i1⟩
  | .hbm, ⟨93, _⟩ => ⟨S_, .i32⟩
  | .hbm, ⟨94, _⟩ => ⟨S_, .i32⟩
  | .hbm, ⟨95, _⟩ => ⟨S8192x232x16, .i32⟩
  | .hbm, ⟨96, _⟩ => ⟨S8192x232x16, .i32⟩
  | .hbm, ⟨97, _⟩ => ⟨S8192x232x16, .i32⟩
  | .hbm, ⟨98, _⟩ => ⟨S_, .i32⟩
  | .hbm, ⟨99, _⟩ => ⟨S8192x232x16, .i32⟩
  | .hbm, ⟨100, _⟩ => ⟨S8192x232x16, .i1⟩
  | .hbm, ⟨101, _⟩ => ⟨S8192x232x16, .i32⟩
  | .hbm, ⟨102, _⟩ => ⟨S8192x232x16, .i32⟩
  | .hbm, ⟨103, _⟩ => ⟨S_, .i32⟩
  | .hbm, ⟨104, _⟩ => ⟨S8192x232x16, .i32⟩
  | .hbm, ⟨105, _⟩ => ⟨S8192x232x16, .i32⟩
  | .hbm, ⟨106, _⟩ => ⟨S_, .i32⟩
  | .hbm, ⟨107, _⟩ => ⟨S8192x232x16, .i32⟩
  | .hbm, ⟨108, _⟩ => ⟨S8192x232x16, .i32⟩
  | .hbm, ⟨109, _⟩ => ⟨S8192x232x16, .i32⟩
  | .hbm, ⟨110, _⟩ => ⟨S8192x232x16, .i16⟩
  | .hbm, ⟨111, _⟩ => ⟨S8192x232x16, .bf16⟩
  | .hbm, ⟨112, _⟩ => ⟨S8192x232x16, .bf16⟩
  | .hbm, ⟨113, _⟩ => ⟨S8192x232x16, .bf16⟩
  | .hbm, ⟨114, _⟩ => ⟨S192x232x16x2, .bf16⟩
  | .hbm, ⟨115, _⟩ => ⟨S192x232x16x1, .bf16⟩
  | .hbm, ⟨116, _⟩ => ⟨S192x232x16, .bf16⟩
  | .hbm, ⟨117, _⟩ => ⟨S192x8192, .f32⟩
  | .hbm, ⟨118, _⟩ => ⟨S192x232x16x1, .bf16⟩
  | .hbm, ⟨119, _⟩ => ⟨S192x232x16, .bf16⟩
  | .hbm, ⟨120, _⟩ => ⟨S192x8192, .f32⟩
  | .hbm, ⟨121, _⟩ => ⟨S192x8192, .f32⟩
  | .hbm, ⟨122, _⟩ => ⟨S192x8192, .bf16⟩
  | _, _ => ⟨S192x1x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_c_10 : Ref sig .tc := ⟨.hbm, 47, rfl⟩
abbrev main_c_11 : Ref sig .tc := ⟨.hbm, 48, rfl⟩
abbrev main_call1_v0 : Ref sig .tc := ⟨.hbm, 49, rfl⟩
abbrev main_call1_v1 : Ref sig .tc := ⟨.hbm, 50, rfl⟩
abbrev main_v30 : Ref sig .tc := ⟨.hbm, 51, rfl⟩
abbrev main_c_12 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_v33 : Ref sig .tc := ⟨.hbm, 56, rfl⟩
abbrev main_c_13 : Ref sig .tc := ⟨.hbm, 57, rfl⟩
abbrev main_v34 : Ref sig .tc := ⟨.hbm, 58, rfl⟩
abbrev main_v35 : Ref sig .tc := ⟨.hbm, 59, rfl⟩
abbrev main_c_14 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_c_16 : Ref sig .tc := ⟨.hbm, 71, rfl⟩
abbrev main_v45 : Ref sig .tc := ⟨.hbm, 72, rfl⟩
abbrev main_v46 : Ref sig .tc := ⟨.hbm, 73, rfl⟩
abbrev main_c_17 : Ref sig .tc := ⟨.hbm, 74, rfl⟩
abbrev main_v47 : Ref sig .tc := ⟨.hbm, 75, rfl⟩
abbrev main_v48 : Ref sig .tc := ⟨.hbm, 76, rfl⟩
abbrev main_c_18 : Ref sig .tc := ⟨.hbm, 77, rfl⟩
abbrev main_v49 : Ref sig .tc := ⟨.hbm, 78, rfl⟩
abbrev main_v50 : Ref sig .tc := ⟨.hbm, 79, rfl⟩
abbrev main_c_19 : Ref sig .tc := ⟨.hbm, 80, rfl⟩
abbrev main_v51 : Ref sig .tc := ⟨.hbm, 81, rfl⟩
abbrev main_v52 : Ref sig .tc := ⟨.hbm, 82, rfl⟩
abbrev main_c_20 : Ref sig .tc := ⟨.hbm, 83, rfl⟩
abbrev main_v53 : Ref sig .tc := ⟨.hbm, 84, rfl⟩
abbrev main_v54 : Ref sig .tc := ⟨.hbm, 85, rfl⟩
abbrev main_c_21 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_22 : Ref sig .tc := ⟨.hbm, 90, rfl⟩
abbrev main_v58 : Ref sig .tc := ⟨.hbm, 91, rfl⟩
abbrev main_v59 : Ref sig .tc := ⟨.hbm, 92, rfl⟩
abbrev main_c_23 : Ref sig .tc := ⟨.hbm, 93, rfl⟩
abbrev main_c_24 : Ref sig .tc := ⟨.hbm, 94, rfl⟩
abbrev main_call3_v0 : Ref sig .tc := ⟨.hbm, 95, rfl⟩
abbrev main_call3_v1 : Ref sig .tc := ⟨.hbm, 96, rfl⟩
abbrev main_v60 : Ref sig .tc := ⟨.hbm, 97, rfl⟩
abbrev main_c_25 : Ref sig .tc := ⟨.hbm, 98, rfl⟩
abbrev main_v61 : Ref sig .tc := ⟨.hbm, 99, rfl⟩
abbrev main_v62 : Ref sig .tc := ⟨.hbm, 100, rfl⟩
abbrev main_call4_v0 : Ref sig .tc := ⟨.hbm, 101, rfl⟩
abbrev main_v63 : Ref sig .tc := ⟨.hbm, 102, rfl⟩
abbrev main_c_26 : Ref sig .tc := ⟨.hbm, 103, rfl⟩
abbrev main_v64 : Ref sig .tc := ⟨.hbm, 104, rfl⟩
abbrev main_v65 : Ref sig .tc := ⟨.hbm, 105, rfl⟩
abbrev main_c_27 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Tactic

@[expose] public section

/-! The value of one step of the kernel, written once over the chunk's number: the twenty-nine chunks of the printed body are the same
operations at shifted offsets. -/

set_option maxRecDepth 16384
noncomputable section
open Idealize.ShloMosaic Idealize.ShloMosaic.TcCoe Idealize.SL.Sem
open Idealize.ShloMosaic.Pipeline (Dat)

namespace Cert.KernelIdeal.Body
open Cert.KernelIdeal Cert.KernelIdeal.Gen
variable {F : FTy → Type} [FloatOps F]

/-- The bits of a four-bit code as a bf16 pattern, elementwise, in the kernel's operations. -/
def bits16 (c : IVec S128x1024 32) : IVec S128x1024 32 :=
  ori (select (cmpi .sgt (andi c (broadcast S128x1024 7#32)) (broadcast S128x1024 1#32))
        (addi (shli (andi c (broadcast S128x1024 7#32)) (broadcast S128x1024 6#32)) (broadcast S128x1024 16128#32))
        (muli (andi c (broadcast S128x1024 7#32)) (broadcast S128x1024 16128#32)))
    (shli (andi c (broadcast S128x1024 8#32)) (broadcast S128x1024 12#32))

/-- The codes of a chunk, transposed and widened. -/
def codes32 (v : Vec F S1024x128 .i8) : IVec S128x1024 32 :=
  extui 32 (transpose S128x1024 [1, 0] v transposes_S1024x128_p1_0_S128x1024) natLt_8_32

/-- The two patterns of every code byte, packed in one word. -/
def words (v : Vec F S1024x128 .i8) : IVec S128x1024 32 :=
  ori (bits16 (andi (codes32 v) (broadcast S128x1024 15#32)))
    (shli (bits16 (shrsi (codes32 v) (broadcast S128x1024 4#32))) (broadcast S128x1024 16#32))

/-- The decoded weights of a chunk. -/
def decoW (v : Vec F S1024x128 .i8) : FVec F S256x1024 .bf16 :=
  bitcastToFloat .bf16 (bitcast S256x1024 16 (words v) bitcasts_S128x1024_w32_S256x1024_w16)

/-- One row of the scale table, spread over sixteen rows. -/
def sclW (v : Vec F S1x1024 .i32) : FVec F S16x1024 .bf16 :=
  bitcastToFloat .bf16 (bitcast S16x1024 16 (broadcastTo S8x1024 (shapeCast S1x1024 v shapeCasts_S1x1024_S1x1024 : IVec S1x1024 32) broadcasts_S1x1024_S8x1024)
    bitcasts_S8x1024_w32_S16x1024_w16)

/-- Sixteen rows of the decoded weights times their scale. -/
def partW (W : FVec F S256x1024 .bf16) (o : ℕ) (h : S256x1024.Slices ![o, 0] S16x1024) (v : Vec F S1x1024 .i32) : FVec F S16x1024 .bf16 :=
  mulf (extractStridedSlice S16x1024 ![o, 0] W h) (sclW v)

/-- The scaled weights of a chunk. -/
def scaledW (W : FVec F S256x1024 .bf16) (r : Fin 8 → Vec F S1x1024 .i32) : FVec F S256x1024 .bf16 :=
  concatenate S256x1024 0 [⟨S16x1024, partW W 0 slices_S256x1024_o0_0_S16x1024 (r 0)⟩, ⟨S16x1024, partW W 16 slices_S256x1024_o16_0_S16x1024 (r 0)⟩, ⟨S16x1024, partW W 32 slices_S256x1024_o32_0_S16x1024 (r 1)⟩, ⟨S16x1024, partW W 48 slices_S256x1024_o48_0_S16x1024 (r 1)⟩, ⟨S16x1024, partW W 64 slices_S256x1024_o64_0_S16x1024 (r 2)⟩, ⟨S16x1024, partW W 80 slices_S256x1024_o80_0_S16x1024 (r 2)⟩, ⟨S16x1024, partW W 96 slices_S256x1024_o96_0_S16x1024 (r 3)⟩, ⟨S16x1024, partW W 112 slices_S256x1024_o112_0_S16x1024 (r 3)⟩, ⟨S16x1024, partW W 128 slices_S256x1024_o128_0_S16x1024 (r 4)⟩, ⟨S16x1024, partW W 144 slices_S256x1024_o144_0_S16x1024 (r 4)⟩, ⟨S16x1024, partW W 160 slices_S256x1024_o160_0_S16x1024 (r 5)⟩, ⟨S16x1024, partW W 176 slices_S256x1024_o176_0_S16x1024 (r 5)⟩, ⟨S16x1024, partW W 192 slices_S256x1024_o192_0_S16x1024 (r 6)⟩, ⟨S16x1024, partW W 208 slices_S256x1024_o208_0_S16x1024 (r 6)⟩, ⟨S16x1024, partW W 224 slices_S256x1024_o224_0_S16x1024 (r 7)⟩, ⟨S16x1024, partW W 240 slices_S256x1024_o240_0_S16x1024 (r 7)⟩]
    concatenates_S16x1024_S16x1024_S16x1024_S16x1024_S16x1024_S16x1024_S16x1024_S16x1024_S16x1024_S16x1024_S16x1024_S16x1024_S16x1024_S16x1024_S16x1024_S16x1024_S256x1024_d0

/-- The contraction of one chunk. -/
def mmW (x : Vec F S192x256 .bf16) (w : FVec F S256x1024 .bf16) : FVec F S192x1024 .f32 :=
  matmul dot_S192x256_S256x1024_S192x1024_1_0_0_1_n_n none (shapeCast S192x256 x shapeCasts_S192x256_S192x256) w
    (constant S192x1024 .f32 0x00000000#32)

/-- The running sum of the chunks. -/
def accW (d : (n : ℕ) → n < 29 → FVec F S192x1024 .f32) : (n : ℕ) → n < 29 → FVec F S192x1024 .f32
  | 0, h => d 0 h
  | n + 1, h => addf (accW d n (Nat.lt_of_succ_lt h)) (d (n + 1) h)

theorem inbX (n : ℕ) (h : n < 29) : ∀ a, (![0, 256 * n] : Fin 2 → Nat) a + S192x256.size a ≤ S192x7424.size a := by
  intro a; fin_cases a
  · show 0 + 192 ≤ 192; omega
  · show 256 * n + 256 ≤ 7424; omega

theorem inbC (n : ℕ) (h : n < 29) : ∀ a, (![0, 128 * n] : Fin 2 → Nat) a + S1024x128.size a ≤ S1024x3712.size a := by
  intro a; fin_cases a
  · show 0 + 1024 ≤ 1024; omega
  · show 128 * n + 128 ≤ 3712; omega

theorem inbR (n : ℕ) (h : n < 29) (k : Fin 8) : ∀ a, (![8 * n + k.val, 0] : Fin 2 → Nat) a + S1x1024.size a ≤ S232x1024.size a := by
  intro a; fin_cases a
  · show 8 * n + k.val + 1 ≤ 232; have := k.isLt; omega
  · show 0 + 1024 ≤ 1024; omega

variable (c : Dev nD) (i : grid0.Coords) (arg1 : Memref sig .tc .vmem S192x7424 .bf16) (harg1 : arg1.IsWhole) (arg2 : Memref sig .tc .vmem S1024x3712 .i8) (harg2 : arg2.IsWhole) (arg3 : Memref sig .tc .vmem S232x1024 .i8) (harg3 : arg3.IsWhole) (arg4 : Memref sig .tc .vmem S192x1024 .bf16) (harg4 : arg4.IsWhole) (arg5 : Memref sig .tc .vmem S232x1024 .i32) (harg5 : arg5.IsWhole)
    (x0 : Vec F S192x7424 .bf16) (x1 : Vec F S1024x3712 .i8) (x2 : Vec F S232x1024 .i8)

/-- One chunk's contribution, over the loads the run names. -/
def chunkR (n : ℕ) (h : n < 29) : FVec F S192x1024 .f32 :=
  mmW (View.readAt (Elt F) arg1.view (Rect.unit (s := S192x7424) ![0, 256 * n] S192x256.size (inbX n h)).toLoadRect (harg1.unread x0))
    (scaledW (decoW (View.readAt (Elt F) arg2.view (Rect.unit (s := S1024x3712) ![0, 128 * n] S1024x128.size (inbC n h)).toLoadRect (harg2.unread x1)))
      (fun k => arg5.view.readCov [⟨Rect.unit (s := S232x1024) ![0, 0] S232x1024.size inb_S232x1024_S232x1024_0_0,
          k0_pay2 (View.readAt (Elt F) arg3.view (Rect.unit (s := S232x1024) ![0, 0] S232x1024.size inb_S232x1024_S232x1024_0_0).toLoadRect (harg3.unread x2))⟩]
        (Rect.unit (s := S232x1024) ![8 * n + k.val, 0] S1x1024.size (inbR n h k)).toLoadRect))

theorem out_run : out0_A_3 c i arg1 harg1 arg2 harg2 arg3 harg3 arg4 harg4 arg5 harg5 x0 x1 x2
    = truncf .bf16 (accW (chunkR arg1 harg1 arg2 harg2 arg3 harg3 arg5 x0 x1 x2) 28 (by omega)) bitsLt_bf16_f32 := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero (by funext a; fin_cases a <;> rfl)]
  sl_kernel_rfl

end Cert.KernelIdeal.Body
end
-- ==== Proof.Codes.lean ====
module

public import Idealize.ShloMosaic.Lib.Pointwise
public import Idealize.ShloMosaic.Lib.Tactic
public import Idealize.ShloMosaic.PureOps.Ideal
public import Idealize.ShloMosaic.Lib.IdealHost

@[expose] public section

/-! The words both programs compute from a code byte and a scale byte, and the two facts about them: the two ways of decoding a four-bit
code give the same sixteen bits, and the sixteen bits the kernel builds from a scale byte stand for the power of two the reference takes. -/

set_option maxRecDepth 16384
noncomputable section
open Idealize.ShloMosaic

namespace Cert.Codes

/-- The kernel's sixteen bits of a four-bit code, in a word of thirty-two. -/
def bits1 (c : BitVec 32) : BitVec 32 :=
  IntOp.ori (Scalar.select (IntOp.cmpi .sgt (IntOp.andi c 7#32) 1#32) (IntOp.addi (IntOp.shli .vector (IntOp.andi c 7#32) 6#32) 16128#32)
      (IntOp.muli (IntOp.andi c 7#32) 16128#32))
    (IntOp.shli .vector (IntOp.andi c 8#32) 12#32)

/-- The word the kernel packs from one code byte: the low code's bits below, the high code's above. -/
def word1 (b : BitVec 8) : BitVec 32 :=
  IntOp.ori (bits1 (IntOp.andi (b.setWidth 32) 15#32)) (IntOp.shli .vector (bits1 (IntOp.shrsi .vector (b.setWidth 32) 4#32)) 16#32)

/-- The reference's sixteen bits of a four-bit code. -/
def host1 (c : BitVec 32) : BitVec 16 :=
  (IntOp.ori
    (Scalar.select (IntOp.cmpi .sgt (IntOp.andi (IntOp.shrsi .host c 1#32) 3#32) 0#32)
      (IntOp.ori (IntOp.shli .host (IntOp.addi (IntOp.andi (IntOp.shrsi .host c 1#32) 3#32) 126#32) 7#32) (IntOp.shli .host (IntOp.andi c 1#32) 6#32))
      (Scalar.select (IntOp.cmpi .eq (IntOp.andi c 1#32) 1#32) 16128#32 0#32))
    (IntOp.shli .host (IntOp.andi c 8#32) 12#32)).setWidth 16

/-- The pattern of code `p` (0 the low one) of a byte. -/
def nib (p : ℕ) (b : BitVec 8) : BitVec 16 := (word1 b).extractLsb' (16 * p) 16

theorem host_lo : ∀ b : BitVec 8, host1 (IntOp.andi (b.setWidth 32) 15#32) = nib 0 b := by decide +kernel
theorem host_hi : ∀ b : BitVec 8, host1 (IntOp.shrsi .host (b.setWidth 32) 4#32) = nib 1 b := by decide +kernel

/-- The word of the kernel's scale table: the sixteen bits of the scale, twice. -/
def table1 (s : BitVec 8) : BitVec 32 :=
  IntOp.ori (IntOp.maxsi (IntOp.shli .vector (s.setWidth 32) 7#32) 64#32)
    (IntOp.shli .vector (IntOp.maxsi (IntOp.shli .vector (s.setWidth 32) 7#32) 64#32) 16#32)

/-- The kernel's sixteen bits of a scale. -/
def sbits (s : BitVec 8) : BitVec 16 := (table1 s).extractLsb' 0 16

theorem table_hi : ∀ s : BitVec 8, (table1 s).extractLsb' 16 16 = sbits s := by decide +kernel

theorem table_half (p : ℕ) (hp : p < 2) (s : BitVec 8) : (table1 s).extractLsb' (16 * p) 16 = sbits s := by
  interval_cases p
  · rfl
  · exact table_hi s

/-- The reference's scale: the power of two the byte names, infinity where it exceeds the range. -/
def scale1 (s : BitVec 8) : EReal :=
  Scalar.select (IntOp.cmpi .sgt (IntOp.subi (s.setWidth 32) 127#32) 127#32) (Ideal.ofBits .f32 0x7F800000#32)
    (Ideal.pow (Ideal.ofBits .f32 0x40000000#32) (((IntOp.subi (s.setWidth 32) 127#32).toInt : ℝ) : EReal))

theorem exponent : ∀ s : BitVec 8, (IntOp.subi (s.setWidth 32) 127#32).toInt = (s.toNat : ℤ) - 127 := by decide +kernel
theorem above : ∀ s : BitVec 8, s ≠ 255#8 → IntOp.cmpi .sgt (IntOp.subi (s.setWidth 32) 127#32) 127#32 = 0#1 := by decide +kernel
theorem fields : ∀ s : BitVec 8, s ≠ 0#8 → (sbits s).extractLsb' 15 1 = 0#1 ∧ ((sbits s).extractLsb' 7 8).toNat = s.toNat ∧ ((sbits s).extractLsb' 0 7).toNat = 0 := by
  decide +kernel
theorem small : ∀ s : BitVec 8, s ≠ 255#8 → s.toNat ≠ 255 := by decide +kernel
theorem positive : ∀ s : BitVec 8, s ≠ 0#8 → s.toNat ≠ 0 := by decide +kernel

theorem two_f32 : Ideal.ofBits .f32 0x40000000#32 = ((2 : ℝ) : EReal) := by
  show Ideal.ieee 8 23 (0x40000000#32) = _
  simp [Ideal.ieee]
  rw [← EReal.coe_mul]
  norm_num

theorem inf_f32 : Ideal.ofBits .f32 0x7F800000#32 = ⊤ := by simp [Ideal.ofBits, Ideal.ieee]

theorem pow_two (z : ℤ) : Ideal.pow ((2 : ℝ) : EReal) ((z : ℝ) : EReal) = (((2 : ℝ) ^ z : ℝ) : EReal) := by
  rw [Ideal.pow_coe_coe]
  exact congrArg _ (Real.rpow_intCast 2 z)

/-- The sixteen bits the kernel builds from a scale byte denote the reference's scale. -/
theorem scale_eq (s : BitVec 8) : Ideal.ofBits .bf16 (sbits s) = scale1 s := by
  by_cases h255 : s = 255#8
  · subst h255
    unfold scale1
    rw [inf_f32, show IntOp.cmpi .sgt (IntOp.subi ((255#8).setWidth 32) 127#32) 127#32 = 1#1 from by decide +kernel]
    show Ideal.ieee 8 7 (sbits 255#8) = _
    rw [show sbits 255#8 = 0x7F80#16 from by decide +kernel]
    simp [Ideal.ieee, Scalar.select]
  · unfold scale1
    rw [above s h255, two_f32, exponent, pow_two]
    show Ideal.ieee 8 7 (sbits s) = (((2 : ℝ) ^ ((s.toNat : ℤ) - 127) : ℝ) : EReal)
    by_cases h0 : s = 0#8
    · subst h0
      rw [show sbits 0#8 = 64#16 from by decide +kernel]
      simp [Ideal.ieee]
      rw [← EReal.coe_mul]
      norm_num
    · obtain ⟨f1, f2, f3⟩ := fields s h0
      have n1 := small s h255
      have n2 := positive s h0
      unfold Ideal.ieee
      simp only [show (8 : ℕ) + 7 = 15 from rfl, f1, f2, f3]
      rw [if_neg (by omega), if_neg n2]
      congr 1
      norm_num
      rw [show ((s.toNat : ℤ) - 127) = 7 + (s.toNat - 127 - 7) from by ring, zpow_add₀ (by norm_num)]
      norm_num

end Cert.Codes
end
-- ==== Proof.Chunk.lean ====
module

public import proofs.«01_k».proof.Proof.Body
public import proofs.«01_k».proof.Proof.Codes
public import Idealize.ShloMosaic.Lib.Pointwise
public import Idealize.ShloMosaic.Lib.BitcastPair
public import Idealize.ShloMosaic.Lib.Pipeline.ReadBack

@[expose] public section

/-! One chunk of the kernel read at an index. -/

set_option maxRecDepth 16384
noncomputable section
open Idealize.ShloMosaic Idealize.ShloMosaic.TcCoe Idealize.SL.Sem

namespace Cert.KernelIdeal.Body
open Cert.KernelIdeal Cert.KernelIdeal.Gen Cert.Codes
variable {F : FTy → Type} [FloatOps F]

theorem words_apply (v : Vec F S1024x128 .i8) (r : Fin 128) (j : Fin 1024) : words v (ix2 r j) = word1 (v (ix2 j r)) := by
  pointwise [words, bits16, codes32, word1, bits1]

/-- A half of a word, read through the bitcast from thirty-two to sixteen bits at rank two. -/
theorem bitcast_half {R r n : ℕ} (x : (⟨2, ![R, n]⟩ : Shape).Idx → BitVec 32)
    (h : (⟨2, ![R, n]⟩ : Shape).Bitcasts 32 ⟨2, ![r, n]⟩ 16) (a : Fin r) (l : Fin n) (p : Fin R) (hp : p.val = a.val / 2) :
    bitcast ⟨2, ![r, n]⟩ 16 x h (ix2 a l) = (x (ix2 p l)).extractLsb' (16 * (a.val % 2)) 16 := by
  rw [bitcast_32_16]
  have hrow : Shape.row (⟨2, ![r, n]⟩ : Shape) (ix2 a l) = a.val := rfl
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

theorem decoW_apply (v : Vec F S1024x128 .i8) (q : Fin 256) (j : Fin 1024) :
    decoW v (ix2 q j) = FloatOps.ofBits .bf16 (nib (q.val % 2) (v (ix2 j ⟨q.val / 2, by omega⟩))) := by
  show FloatOps.ofBits .bf16 (bitcast S256x1024 16 (words v) _ (ix2 q j)) = _
  rw [bitcast_half (words v) _ q j ⟨q.val / 2, by omega⟩ rfl, words_apply]
  rfl

theorem sclW_apply (v : Vec F S1x1024 .i32) (q : Fin 16) (j : Fin 1024) :
    sclW v (ix2 q j) = FloatOps.ofBits .bf16 ((v (ix2 0 j) : BitVec 32).extractLsb' (16 * (q.val % 2)) 16) := by
  show FloatOps.ofBits .bf16 (bitcast S16x1024 16 _ _ (ix2 q j)) = _
  rw [bitcast_half _ _ q j ⟨q.val / 2, by omega⟩ rfl]
  pointwise

theorem slicesPart (k : Fin 16) : S256x1024.Slices ![16 * k.val, 0] S16x1024 := by
  revert k; decide

theorem scaledW_ofFn (W : FVec F S256x1024 .bf16) (r : Fin 8 → Vec F S1x1024 .i32) (hc) :
    scaledW W r = concatenate S256x1024 0 (List.ofFn fun k : Fin 16 => (⟨S16x1024, partW W (16 * k.val) (slicesPart k) (r ⟨k.val / 2, by omega⟩)⟩ : (s : Shape) × (s.Idx → F .bf16))) hc := rfl

theorem scaledW_apply (W : FVec F S256x1024 .bf16) (r : Fin 8 → Vec F S1x1024 .i32) (q : Fin 256) (j : Fin 1024) :
    scaledW W r (ix2 q j) = FloatOps.mulf (W (ix2 q j))
      (FloatOps.ofBits .bf16 ((r ⟨q.val / 32, by omega⟩ (ix2 0 j) : BitVec 32).extractLsb' (16 * (q.val % 2)) 16)) := by
  refine (congrFun (scaledW_ofFn W r concatenates_S16x1024_S16x1024_S16x1024_S16x1024_S16x1024_S16x1024_S16x1024_S16x1024_S16x1024_S16x1024_S16x1024_S16x1024_S16x1024_S16x1024_S16x1024_S16x1024_S256x1024_d0) _).trans ?_
  refine (concatenate_ofFn_apply (s₁ := S16x1024) (t := S256x1024) 0 _ _ rfl 16 rfl (ix2 q j) ⟨q.val / 16, by omega⟩ rfl
    (ix2 ⟨q.val % 16, by omega⟩ j) rfl (by intro b hb; fin_cases b; · exact absurd rfl hb
                                           · rfl)).trans ?_
  show FloatOps.mulf (extractStridedSlice S16x1024 ![16 * (q.val / 16), 0] W _ (ix2 ⟨q.val % 16, _⟩ j)) (sclW (r _) (ix2 ⟨q.val % 16, _⟩ j)) = _
  rw [sclW_apply]
  have e1 : q.val / 16 / 2 = q.val / 32 := by omega
  have e2 : q.val % 16 % 2 = q.val % 2 := by omega
  have e3 : 16 * (q.val / 16) + q.val % 16 = q.val := by omega
  simp only [e1, e2]
  congr 1
  refine congrArg W ?_
  funext a; apply Fin.ext
  match a with
  | ⟨0, _⟩ => exact e3
  | ⟨1, _⟩ => show 0 + j.val = j.val; omega

/-- A row of the scale table read back from the store that covers it. -/
theorem row_apply {Val : EltTy → Type} [∀ e, Nonempty (Val e)] (v : View sig .tc .vmem S232x1024 .i32) (T : S232x1024.Idx → Val .i32) (b : ℕ) (hb : b < 232)
    (inb : ∀ a, (![b, 0] : Fin 2 → Nat) a + S1x1024.size a ≤ S232x1024.size a) (inb0) (j : Fin 1024) :
    v.readCov [(⟨Rect.unit (s := S232x1024) ![0, 0] S232x1024.size inb0, T⟩ : View.Piece Val S232x1024 .i32)]
      (Rect.unit (s := S232x1024) ![b, 0] S1x1024.size inb).toLoadRect (ix2 0 j) = T (ix2 ⟨b, hb⟩ j) := by
  rw [View.readCov_fill v inb0 T [] _ (by intro a; fin_cases a <;> rfl)]
  refine congrArg T ?_
  funext a; apply Fin.ext
  match a with
  | ⟨0, _⟩ => show b + 1 * 0 = b; omega
  | ⟨1, _⟩ => show 0 + 1 * j.val = j.val; omega

variable (arg1 : Memref sig .tc .vmem S192x7424 .bf16) (harg1 : arg1.IsWhole) (arg2 : Memref sig .tc .vmem S1024x3712 .i8) (harg2 : arg2.IsWhole) (arg3 : Memref sig .tc .vmem S232x1024 .i8) (harg3 : arg3.IsWhole) (arg4 : Memref sig .tc .vmem S192x1024 .bf16) (harg4 : arg4.IsWhole) (arg5 : Memref sig .tc .vmem S232x1024 .i32) (harg5 : arg5.IsWhole)

theorem table_apply (x2 : Vec F S232x1024 .i8) (b : Fin 232) (j : Fin 1024) :
    (k0_pay2 (View.readAt (Elt F) arg3.view (Rect.unit (s := S232x1024) ![0, 0] S232x1024.size inb_S232x1024_S232x1024_0_0).toLoadRect (harg3.unread x2)) : IVec S232x1024 32)
      (ix2 b j) = table1 (x2 (ix2 b j)) := by
  rw [View.readAt_eq_ld, harg3.read_unread, View.ld_unit_zero (by funext a; fin_cases a <;> rfl)]
  pointwise [k0_pay2, table1]

/-- One weight of the block, as an extended real: the code's value times the scale's. -/
def wgt (x1 : Vec Ideal S1024x3712 .i8) (x2 : Vec Ideal S232x1024 .i8) (j : Fin 1024) (k : Fin 7424) : EReal :=
  Ideal.ofBits .bf16 (nib (k.val % 2) (x1 (ix2 j ⟨k.val / 2, by omega⟩))) * Ideal.ofBits .bf16 (sbits (x2 (ix2 ⟨k.val / 32, by omega⟩ j)))

theorem chunkR_apply (x0 : Vec Ideal S192x7424 .bf16) (x1 : Vec Ideal S1024x3712 .i8) (x2 : Vec Ideal S232x1024 .i8) (n : ℕ) (h : n < 29) (i : Fin 192) (j : Fin 1024) :
    chunkR arg1 harg1 arg2 harg2 arg3 harg3 arg5 x0 x1 x2 n h (ix2 i j)
      = ∑ q : Fin 256, (x0 (ix2 i ⟨256 * n + q.val, by omega⟩) : EReal) * wgt x1 x2 j ⟨256 * n + q.val, by omega⟩ := by
  unfold chunkR mmW
  pointwise
  refine Finset.sum_congr rfl fun q _ => ?_
  have hx : View.readAt (Elt Ideal) arg1.view (Rect.unit (s := S192x7424) ![0, 256 * n] S192x256.size (inbX n h)).toLoadRect (harg1.unread x0) (ix2 i q)
      = x0 (ix2 i ⟨256 * n + q.val, by omega⟩) := by
    rw [View.readAt_eq_ld, harg1.read_unread]
    refine congrArg x0 ?_
    funext a; apply Fin.ext
    match a with
    | ⟨0, _⟩ => show 0 + 1 * i.val = i.val; omega
    | ⟨1, _⟩ => show 256 * n + 1 * q.val = 256 * n + q.val; omega
  rw [hx, scaledW_apply, decoW_apply]
  have hc : ∀ p : Fin 128, View.readAt (Elt Ideal) arg2.view (Rect.unit (s := S1024x3712) ![0, 128 * n] S1024x128.size (inbC n h)).toLoadRect (harg2.unread x1) (ix2 j p)
      = x1 (ix2 j ⟨128 * n + p.val, by omega⟩) := by
    intro p
    rw [View.readAt_eq_ld, harg2.read_unread]
    refine congrArg x1 ?_
    funext a; apply Fin.ext
    match a with
    | ⟨0, _⟩ => show 0 + 1 * j.val = j.val; omega
    | ⟨1, _⟩ => show 128 * n + 1 * p.val = 128 * n + p.val; omega
  rw [hc, row_apply _ _ (8 * n + q.val / 32) (by omega), table_apply, table_half _ (by omega)]
  unfold wgt
  have e1 : (256 * n + q.val) % 2 = q.val % 2 := by omega
  have e2 : (256 * n + q.val) / 2 = 128 * n + q.val / 2 := by omega
  have e3 : (256 * n + q.val) / 32 = 8 * n + q.val / 32 := by omega
  simp only [e1, e2, e3]
  rfl

end Cert.KernelIdeal.Body
end
-- ==== Proof.Spec.lean ====
module

public import proofs.«01_k».proof.Proof.Codes
public import Idealize.ShloMosaic.Lib.Pointwise
public import Mathlib.Logic.Equiv.Fin.Basic

@[expose] public section

/-! The product both programs compute, as one sum over the contracted axis, and the two regroupings of that sum. -/

set_option maxRecDepth 16384
noncomputable section
open Idealize.ShloMosaic
open scoped BigOperators

namespace Cert.Spec
open Cert.Codes

/-- The weight of output column `j` at contracted index `k`: the code's value times the scale of its block of thirty-two. -/
def weight (w : (⟨2, ![8192, 3712]⟩ : Shape).Idx → BitVec 8) (s : (⟨2, ![8192, 232]⟩ : Shape).Idx → BitVec 8) (j : Fin 8192) (k : Fin 7424) : EReal :=
  Ideal.ofBits .bf16 (nib (k.val % 2) (w (ix2 j ⟨k.val / 2, by omega⟩))) * Ideal.ofBits .bf16 (sbits (s (ix2 j ⟨k.val / 32, by omega⟩)))

/-- One entry of the linear layer: row `r` of `x` against column `j` of the transposed weights. -/
def entry (x : (⟨3, ![192, 1, 7424]⟩ : Shape).Idx → EReal) (w : (⟨2, ![8192, 3712]⟩ : Shape).Idx → BitVec 8) (s : (⟨2, ![8192, 232]⟩ : Shape).Idx → BitVec 8)
    (r : Fin 192) (j : Fin 8192) : EReal :=
  ∑ k : Fin 7424, x (ix3 r 0 k) * weight w s j k

/-- The linear layer: `x` times the transposed weights. -/
def G (x : (⟨3, ![192, 1, 7424]⟩ : Shape).Idx → EReal) (w : (⟨2, ![8192, 3712]⟩ : Shape).Idx → BitVec 8) (s : (⟨2, ![8192, 232]⟩ : Shape).Idx → BitVec 8) :
    (⟨2, ![192, 8192]⟩ : Shape).Idx → EReal :=
  fun i => entry x w s (i 0) (i 1)

/-- A sum over a product range, grouped. -/
theorem sum_split {M : Type*} [AddCommMonoid M] (a b n : ℕ) (h : a * b = n) (f : Fin n → M) :
    ∑ k : Fin n, f k = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left _ hp
        _ = n := by rw [Nat.mul_comm]; exact h⟩ := by
  subst h
  rw [← Equiv.sum_comp finProdFinEquiv, Fintype.sum_prod_type]
  refine Finset.sum_congr rfl fun p _ => Finset.sum_congr rfl fun q _ => congrArg f (Fin.ext ?_)
  show q.val + b * p.val = b * p.val + q.val
  omega

/-- The contracted axis by blocks of thirty-two, the even and the odd indices of each block apart. -/
theorem sum_even_odd {M : Type*} [AddCommMonoid M] (f : Fin 7424 → M) :
    ∑ k : Fin 7424, f k
      = (∑ b : Fin 232, ∑ t : Fin 16, f ⟨32 * b.val + 2 * t.val, by omega⟩) + ∑ b : Fin 232, ∑ t : Fin 16, f ⟨32 * b.val + 2 * t.val + 1, by omega⟩ := by
  rw [sum_split 232 32 7424 rfl f, ← Finset.sum_add_distrib]
  refine Finset.sum_congr rfl fun b _ => ?_
  rw [sum_split 16 2 32 rfl, ← Finset.sum_add_distrib]
  refine Finset.sum_congr rfl fun t _ => ?_
  rw [Fin.sum_univ_two]
  rfl

end Cert.Spec
end
-- ==== Proof.KernelValue.lean ====
module

public import proofs.«01_k».proof.Proof.Chunk
public import proofs.«01_k».proof.Proof.Spec
public import Idealize.ShloMosaic.Lib.Pipeline.Value
public import Idealize.ShloMosaic.Lib.Claim

@[expose] public section

/-! The kernel's result array over the extended reals: each step writes its block of the product. -/

set_option maxRecDepth 16384
noncomputable section
open Idealize.ShloMosaic Idealize.ShloMosaic.TcCoe Idealize.SL.Sem
open Idealize.ShloMosaic.Pipeline (Dat)
open scoped BigOperators

namespace Cert.KernelIdeal.Body
open Cert.KernelIdeal Cert.KernelIdeal.Gen Cert.Codes Cert.Spec

theorem accW_apply (d : (n : ℕ) → n < 29 → FVec Ideal S192x1024 .f32) (i : S192x1024.Idx) : ∀ (n : ℕ) (h : n < 29),
    (accW d n h i : EReal) = ∑ k : Fin (n + 1), d k.val (by omega) i
  | 0, h => by rw [Fin.sum_univ_one]; rfl
  | n + 1, h => by
    rw [Fin.sum_univ_castSucc]
    show (accW d n _ i : EReal) + d (n + 1) h i = _
    rw [accW_apply d i n]
    rfl

/-- The block one step leaves. -/
theorem out_apply (c : Dev nD) (i : grid0.Coords) (arg1 : Memref sig .tc .vmem S192x7424 .bf16) (harg1 : arg1.IsWhole) (arg2 : Memref sig .tc .vmem S1024x3712 .i8) (harg2 : arg2.IsWhole) (arg3 : Memref sig .tc .vmem S232x1024 .i8) (harg3 : arg3.IsWhole) (arg4 : Memref sig .tc .vmem S192x1024 .bf16) (harg4 : arg4.IsWhole) (arg5 : Memref sig .tc .vmem S232x1024 .i32) (harg5 : arg5.IsWhole)
    (x0 : Vec Ideal S192x7424 .bf16) (x1 : Vec Ideal S1024x3712 .i8) (x2 : Vec Ideal S232x1024 .i8) (r : Fin 192) (j : Fin 1024) :
    (out0_A_3 c i arg1 harg1 arg2 harg2 arg3 harg3 arg4 harg4 arg5 harg5 x0 x1 x2 (ix2 r j) : EReal)
      = ∑ k : Fin 7424, (x0 (ix2 r k) : EReal) * wgt x1 x2 j k := by
  rw [out_run, sum_split 29 256 7424 rfl]
  show ((accW (chunkR arg1 harg1 arg2 harg2 arg3 harg3 arg5 x0 x1 x2) 28 (by omega) (ix2 r j) : Ideal .f32) : EReal) = _
  rw [accW_apply]
  exact Finset.sum_congr rfl fun n _ => chunkR_apply arg1 harg1 arg2 harg2 arg3 harg3 arg5 x0 x1 x2 n.val n.isLt r j

variable (m : (ℓ : Loc nD τ sig) → Buf (Elt Ideal) ℓ) (ρ : Dev nD → PrngReg)

/-- The product of the arguments a core holds. -/
def res (c : Dev nD) : Buf (Elt Ideal) ((c : Thread nD τ).loc main_v2) :=
  G (m ((c : Thread nD τ).loc main_arg0)) (m ((c : Thread nD τ).loc main_arg1)) (m ((c : Thread nD τ).loc main_arg2))

theorem V_v0 (c : Dev nD) : V m c main_v0 = shapeCast S192x7424 (m ((c : Thread nD τ).loc main_arg0)) shapeCasts_S192x1x7424_S192x7424 := by
  unfold_abbrev_sides
  after_results
  rfl

theorem V_v1 (c : Dev nD) : V m c main_v1 = transpose S232x8192 [1, 0] (m ((c : Thread nD τ).loc main_arg2)) transposes_S8192x232_S232x8192_1_0 := by
  unfold_abbrev_sides
  after_results

theorem idx0 : ∀ t : Fin cfg0.N, win0_0.index t 0 = 0 ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel

theorem iblk0 (c : Dev nD) (t : Fin cfg0.N) (r : Fin 192) (k : Fin 7424) :
    (iblk m c 0 t : Vec Ideal S192x7424 .bf16) (ix2 r k) = (m ((c : Thread nD τ).loc main_arg0) : Vec Ideal S192x1x7424 .bf16) (ix3 r 0 k) := by
  have e : (iblk m c 0 t : Vec Ideal S192x7424 .bf16) (ix2 r k) = (V m c main_v0 : Vec Ideal S192x7424 .bf16) (ix2 r k) := by
    unfold iblk
    rw [View.read_apply]
    show V m c main_v0 _ = V m c main_v0 _
    congr 1
    funext a; apply Fin.ext
    match a with
    | ⟨0, _⟩ => show win0_0.index t 0 * 192 + 1 * r.val = r.val; rw [(idx0 t).1]; omega
    | ⟨1, _⟩ => show win0_0.index t 1 * 7424 + 1 * k.val = k.val; rw [(idx0 t).2]; omega
  rw [e, V_v0]
  refine shapeCast_apply _ _ _ (ix3 r 0 k) ?_
  rw [Shape.rowMajor_val_three, Shape.rowMajor_val_two]
  show (r.val * 1 + 0) * 7424 + k.val = r.val * 7424 + k.val
  omega

theorem iblk1 (c : Dev nD) (t : Fin cfg0.N) (j : Fin 1024) (k : Fin 3712) :
    (iblk m c 1 t : Vec Ideal S1024x3712 .i8) (ix2 j k)
      = (m ((c : Thread nD τ).loc main_arg1) : Vec Ideal S8192x3712 .i8) (ix2 ⟨1024 * t.val + j.val, by have := t.isLt; have : cfg0.N = 8 := N_0; omega⟩ k) := by
  unfold iblk
  rw [View.read_apply]
  show V m c main_arg1 _ = _
  rw [V_main_arg1]
  congr 1
  funext a; apply Fin.ext
  match a with
  | ⟨0, _⟩ => show win0_1.index t 0 * 1024 + 1 * j.val = 1024 * t.val + j.val; rw [(idx1 t).1]; omega
  | ⟨1, _⟩ => show win0_1.index t 1 * 3712 + 1 * k.val = k.val; rw [(idx1 t).2]; omega

theorem iblk2 (c : Dev nD) (t : Fin cfg0.N) (b : Fin 232) (j : Fin 1024) :
    (iblk m c 2 t : Vec Ideal S232x1024 .i8) (ix2 b j)
      = (m ((c : Thread nD τ).loc main_arg2) : Vec Ideal S8192x232 .i8) (ix2 ⟨1024 * t.val + j.val, by have := t.isLt; have : cfg0.N = 8 := N_0; omega⟩ b) := by
  have hN : t.val < 8 := by have := t.isLt; have : cfg0.N = 8 := N_0; omega
  have e : (iblk m c 2 t : Vec Ideal S232x1024 .i8) (ix2 b j) = (V m c main_v1 : Vec Ideal S232x8192 .i8) (ix2 b ⟨1024 * t.val + j.val, by omega⟩) := by
    unfold iblk
    rw [View.read_apply]
    show V m c main_v1 _ = V m c main_v1 _
    congr 1
    funext a; apply Fin.ext
    match a with
    | ⟨0, _⟩ => show win0_2.index t 0 * 232 + 1 * b.val = b.val; rw [(idx2 t).1]; omega
    | ⟨1, _⟩ => show win0_2.index t 1 * 1024 + 1 * j.val = 1024 * t.val + j.val; rw [(idx2 t).2]; omega
  rw [e, V_v1]
  pointwise

/-- What step `t` writes back is block `t` of the product. -/
theorem flushed_eq (c : Dev nD) (t : Fin cfg0.N) :
    (dats m 0 c).flushed 3 t = ((cfg0.win 3).blk t).view.read (Elt Ideal) (res m c) := by
  have hN : t.val < 8 := by have := t.isLt; have : cfg0.N = 8 := N_0; omega
  rw [Value.flushed3_A]
  funext j
  obtain ⟨a, b, rfl⟩ : ∃ (a : Fin 192) (b : Fin 1024), j = ix2 a b := ⟨j 0, j 1, eq_ix2 j⟩
  rw [View.read_apply]
  have er : (((cfg0.win 3).blk t).view.emb (ix2 a b) : S192x8192.Idx) = ix2 a ⟨1024 * t.val + b.val, by omega⟩ := by
    funext d; apply Fin.ext
    match d with
    | ⟨0, _⟩ => show win0_3.index t 0 * 192 + 1 * a.val = a.val; rw [(idx3 t).1]; omega
    | ⟨1, _⟩ => show win0_3.index t 1 * 1024 + 1 * b.val = 1024 * t.val + b.val; rw [(idx3 t).2]; omega
  refine Eq.trans ?_ (congrArg (res m c) er).symm
  refine (out_apply c _ _ _ _ _ _ _ _ _ _ _ _ _ _ a b).trans ?_
  show _ = entry (m ((c : Thread nD τ).loc main_arg0)) (m ((c : Thread nD τ).loc main_arg1)) (m ((c : Thread nD τ).loc main_arg2)) a ⟨1024 * t.val + b.val, by omega⟩
  unfold entry
  refine Finset.sum_congr rfl fun k _ => ?_
  rw [iblk0]
  unfold wgt weight
  rw [iblk1, iblk2]

/-- Every entry of the result lies in the block of the step its column names. -/
theorem cover (i : S192x8192.Idx) (t : Fin cfg0.N) (ht : t.val = (i 1 : Nat) / 1024) :
    i ∈ ((View.whole main_v2).slice (win0_3.rect t)).set := by
  have h0 : (i 0 : Nat) < 192 := (i 0).isLt
  have h1 : (i 1 : Nat) < 8192 := (i 1).isLt
  rw [View.set_slice_whole, Rect.mem_set_unit]
  intro a
  match a with
  | ⟨0, _⟩ => show win0_3.index t 0 * 192 ≤ (i 0 : Nat) ∧ (i 0 : Nat) < win0_3.index t 0 * 192 + 192
              rw [(idx3 t).1]; omega
  | ⟨1, _⟩ => show win0_3.index t 1 * 1024 ≤ (i 1 : Nat) ∧ (i 1 : Nat) < win0_3.index t 1 * 1024 + 1024
              rw [(idx3 t).2]; omega

theorem final (c : Dev nD) : (dats m 0 c).arrAt 3 cfg0.N = res m c :=
  (dats m 0 c).arrAt_eq_of_cover 3 (res m c) (fun t _ => flushed_eq m c t) fun (i : S192x8192.Idx) =>
    have ht : (i 1 : Nat) / 1024 < cfg0.N := by
      have h1 : (i 1 : Nat) < 8192 := (i 1).isLt
      have hN : cfg0.N = 8 := N_0
      omega
    ⟨⟨(i 1 : Nat) / 1024, ht⟩, flush0_3 _, cover i _ rfl⟩

/-- The run, read: the result array at the product, the arguments unchanged. -/
theorem run : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks (F := Ideal) m ρ)

end Cert.KernelIdeal.Body
end
-- ==== Proof.ReferenceValue.lean ====
module

public import proofs.«01_k».proof.Proof.Gen.ReferenceIdeal.Run
public import proofs.«01_k».proof.Proof.Spec
public import Idealize.ShloMosaic.Lib.Tactic.CleanTypes

@[expose] public section

/-! The reference's result array over the extended reals is the same product. -/

set_option maxRecDepth 16384
noncomputable section
open Idealize.ShloMosaic Idealize.ShloMosaic.TcCoe Idealize.SL.Sem
open scoped BigOperators

namespace Cert.ReferenceIdeal.Value
open Cert.ReferenceIdeal Cert.ReferenceIdeal.Gen Cert.Codes Cert.Spec

variable (m : (ℓ : Loc nD τ sig) → Buf (Elt Ideal) ℓ)

variable (x : S192x1x7424.Idx → EReal) (w : S8192x3712.Idx → BitVec 8) (s : S8192x232.Idx → BitVec 8)

/-- An even index's term: the low code of its byte. -/
theorem even_term (r : Fin 192) (j : Fin 8192) (b : Fin 232) (t : Fin 16) (k : Fin 7424) (c : Fin 3712) (hk : k.val = 32 * b.val + 2 * t.val) (hc : c.val = b.val * 16 + t.val) :
    x (ix3 r 0 k) * (Ideal.ofBits .bf16 (host1 (IntOp.andi ((w (ix2 j c)).setWidth 32) 15#32)) * scale1 (s (ix2 j b))) = x (ix3 r 0 k) * weight w s j k := by
  unfold weight
  rw [host_lo, ← scale_eq, show k.val % 2 = 0 by omega, show (⟨k.val / 2, by omega⟩ : Fin 3712) = c from Fin.ext (by show k.val / 2 = c.val; omega),
    show (⟨k.val / 32, by omega⟩ : Fin 232) = b from Fin.ext (by show k.val / 32 = b.val; omega)]

/-- An odd index's term: the high code of its byte. -/
theorem odd_term (r : Fin 192) (j : Fin 8192) (b : Fin 232) (t : Fin 16) (k : Fin 7424) (c : Fin 3712) (hk : k.val = 32 * b.val + 2 * t.val + 1) (hc : c.val = b.val * 16 + t.val) :
    x (ix3 r 0 k) * (Ideal.ofBits .bf16 (host1 (IntOp.shrsi .host ((w (ix2 j c)).setWidth 32) 4#32)) * scale1 (s (ix2 j b))) = x (ix3 r 0 k) * weight w s j k := by
  unfold weight
  rw [host_hi, ← scale_eq, show k.val % 2 = 1 by omega, show (⟨k.val / 2, by omega⟩ : Fin 3712) = c from Fin.ext (by show k.val / 2 = c.val; omega),
    show (⟨k.val / 32, by omega⟩ : Fin 232) = b from Fin.ext (by show k.val / 32 = b.val; omega)]

theorem out_eq (c : Dev nD) : (res_out0 m c : S192x8192.Idx → EReal)
      = G (m ((c : Thread nD τ).loc main_arg0)) (m ((c : Thread nD τ).loc main_arg1)) (m ((c : Thread nD τ).loc main_arg2)) := by
  funext j
  idx_vars j
  unfold res_out0 res_main_v81
  clean_types
  pointwise [id_eq]
  show _ = entry (m ((c : Thread nD τ).loc main_arg0)) (m ((c : Thread nD τ).loc main_arg1)) (m ((c : Thread nD τ).loc main_arg2)) j0 j1
  unfold entry
  refine Eq.trans ?_ (sum_even_odd _).symm
  refine congrArg₂ (· + ·) (Finset.sum_congr rfl fun b _ => Finset.sum_congr rfl fun t _ => ?_) (Finset.sum_congr rfl fun b _ => Finset.sum_congr rfl fun t _ => ?_)
  · refine Eq.trans ?_ (even_term _ _ _ j0 j1 b t ⟨32 * b.val + 2 * t.val, by omega⟩ ⟨b.val * 16 + t.val, by omega⟩ rfl rfl)
    rw [show (⟨32 * b.val + 2 * t.val, by omega⟩ : Fin 7424) = ⟨b.val * 32 + t.val * 2, by omega⟩ from Fin.ext (by show 32 * b.val + 2 * t.val = b.val * 32 + t.val * 2; omega)]
    rfl
  · refine Eq.trans ?_ (odd_term _ _ _ j0 j1 b t ⟨32 * b.val + 2 * t.val + 1, by omega⟩ ⟨b.val * 16 + t.val, by omega⟩ rfl rfl)
    rw [show (⟨32 * b.val + 2 * t.val + 1, by omega⟩ : Fin 7424) = ⟨b.val * 32 + t.val * 2 + 1, by omega⟩ from Fin.ext (by show 32 * b.val + 2 * t.val + 1 = b.val * 32 + t.val * 2 + 1; omega)]
    rfl

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments and every counter as they were. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's, entry by entry. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Body.res m c, Cert.KernelIdeal.Body.run m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Value.out_eq m' c).trans ?_
  rw [(hagree c).1, (hagree c).2.1, (hagree c).2.2]
  rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
